-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_table [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_table [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_table [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel)
    ∧ quiescent_KernelIdeal (hKernelIdeal := hKernelIdeal)
    ∧ quiescent_KernelIdeal_pre_in_table (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ preserves_Kernel_KernelIdeal
    ∧ algebraic_KernelIdeal_ReferenceIdeal_pre_in_table (hKernelIdeal := hKernelIdeal) (hReferenceIdeal := hReferenceIdeal) (hPre_in_table := hPre_in_table)
-- ==== Pre_in_table.lean ====
abbrev S8x128 : Shape := ⟨2, ![8, 128]⟩
abbrev S128x49152 : Shape := ⟨2, ![128, 49152]⟩
abbrev S_ : Shape := ⟨0, ![]⟩

class Facts : Prop where
  bcast_S_S8x128 : S_.BroadcastsInDim S8x128 (![] : Fin 0 → Fin S8x128.rank)

variable [Facts]

def fn {F : FTy → Type} [FloatOps F] (main_arg0 : IVec S8x128 32) (main_arg1 : FVec F S128x49152 .f32) : IVec S8x128 1 :=
  let main_c : IVec S_ 32 := constantI S_ 32 0#32
  let main_v0 : IVec S8x128 32 := broadcastInDim S8x128 ![] bcast_S_S8x128 main_c
  let main_v1 : IVec S8x128 1 := cmpi .sge main_arg0 main_v0
  let main_c_0 : IVec S_ 32 := constantI S_ 32 128#32
  let main_v2 : IVec S8x128 32 := broadcastInDim S8x128 ![] bcast_S_S8x128 main_c_0
  let main_v3 : IVec S8x128 1 := cmpi .slt main_arg0 main_v2
  let main_v4 : IVec S8x128 1 := andi main_v1 main_v3
  main_v4
-- ==== Kernel.lean ====
abbrev S8x128 : Shape := ⟨2, ![8, 128]⟩
abbrev S128x49152 : Shape := ⟨2, ![128, 49152]⟩
abbrev S1024x1 : Shape := ⟨2, ![1024, 1]⟩
abbrev S1024x49152 : Shape := ⟨2, ![1024, 49152]⟩
abbrev S128x2048 : Shape := ⟨2, ![128, 2048]⟩
abbrev S1024x2048 : Shape := ⟨2, ![1024, 2048]⟩
abbrev S1024x128 : Shape := ⟨2, ![1024, 128]⟩
abbrev S8x128x49152 : Shape := ⟨3, ![8, 128, 49152]⟩

abbrev nBuf : Space → Nat
  | .hbm => 5
  | .vmem => 5
  | .smem => 0
  | _ => 0

abbrev bufTy : (tb : Table) → Fin (tcTables nBuf tb) → BufTy
  | .hbm, ⟨0, _⟩ => ⟨S8x128, .i32⟩
  | .hbm, ⟨1, _⟩ => ⟨S128x49152, .f32⟩
  | .hbm, ⟨2, _⟩ => ⟨S1024x1, .i32⟩
  | .hbm, ⟨3, _⟩ => ⟨S1024x49152, .bf16⟩
  | .hbm, ⟨4, _⟩ => ⟨S8x128x49152, .bf16⟩
  | .local _ .vmem, ⟨0, _⟩ => ⟨S1024x1, .i32⟩
  | .local _ .vmem, ⟨1, _⟩ => ⟨S128x2048, .f32⟩
  | .local _ .vmem, ⟨2, _⟩ => ⟨S128x2048, .f32⟩
  | .local _ .vmem, ⟨3, _⟩ => ⟨S1024x2048, .bf16⟩
  | .local _ .vmem, ⟨4, _⟩ => ⟨S1024x2048, .bf16⟩
  | _, _ => ⟨S8x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x128 : Shape := ⟨2, ![8, 128]⟩
abbrev S128x49152 : Shape := ⟨2, ![128, 49152]⟩
abbrev S_ : Shape := ⟨0, ![]⟩
abbrev S8x128x1 : Shape := ⟨3, ![8, 128, 1]⟩
abbrev S1 : Shape := ⟨1, ![1]⟩
abbrev S1x1x1 : Shape := ⟨3, ![1, 1, 1]⟩
abbrev S8x128x49152 : Shape := ⟨3, ![8, 128, 49152]⟩

abbrev nBuf : Space → Nat
  | .hbm => 26
  | .vmem => 0
  | .smem => 0
  | _ => 0

abbrev bufTy : (tb : Table) → Fin (tcTables nBuf tb) → BufTy
  | .hbm, ⟨0, _⟩ => ⟨S8x128, .i32⟩
  | .hbm, ⟨1, _⟩ => ⟨S128x49152, .f32⟩
  | .hbm, ⟨2, _⟩ => ⟨S_, .i32⟩
  | .hbm, ⟨3, _⟩ => ⟨S8x128, .i32⟩
  | .hbm, ⟨4, _⟩ => ⟨S8x128, .i1⟩
  | .hbm, ⟨5, _⟩ => ⟨S_, .i32⟩
  | .hbm, ⟨6, _⟩ => ⟨S8x128, .i32⟩
  | .hbm, ⟨7, _⟩ => ⟨S8x128, .i32⟩
  | .hbm, ⟨8, _⟩ => ⟨S8x128, .i32⟩
  | .hbm, ⟨9, _⟩ => ⟨S8x128x1, .i32⟩
  | .hbm, ⟨10, _⟩ => ⟨S1, .i32⟩
  | .hbm, ⟨11, _⟩ => ⟨S_, .i32⟩
  | .hbm, ⟨12, _⟩ => ⟨S8x128x1, .i32⟩
  | .hbm, ⟨13, _⟩ => ⟨S8x128x1, .i1⟩
  | .hbm, ⟨14, _⟩ => ⟨S1x1x1, .i32⟩
  | .hbm, ⟨15, _⟩ => ⟨S8x128x1, .i32⟩
  | .hbm, ⟨16, _⟩ => ⟨S8x128x1, .i1⟩
  | .hbm, ⟨17, _⟩ => ⟨S8x128x1, .i1⟩
  | .hbm, ⟨18, _⟩ => ⟨S_, .i1⟩
  | .hbm, ⟨19, _⟩ => ⟨S8x128, .i1⟩
  | .hbm, ⟨20, _⟩ => ⟨S8x128x49152, .f32⟩
  | .hbm, ⟨21, _⟩ => ⟨S8x128x49152, .i1⟩
  | .hbm, ⟨22, _⟩ => ⟨S_, .f32⟩
  | .hbm, ⟨23, _⟩ => ⟨S8x128x49152, .f32⟩
  | .hbm, ⟨24, _⟩ => ⟨S8x128x49152, .f32⟩
  | .hbm, ⟨25, _⟩ => ⟨S8x128x49152, .bf16⟩
  | _, _ => ⟨S8x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Proof.Block.lean ====
/-
  What ONE grid point of the kernel computes, over the extended reals.

  The body compares the 1024 token ids, spread along 128 lanes, with the lane number, turns the outcome into a matrix
  of zeros and ones, and multiplies that matrix with a [128, 2048] block of the table. Row `r` of the matrix has a
  single one, in lane `id r`, when the id is below 128; every other term of the product's sum is zero times a table
  element, which is zero over the extended reals whatever the element is. So row `r` of the product is row `id r` of the
  block.
-/
module

public import proofs.«01_k».proof.Proof.Gen.KernelIdeal.Skeleton
public import Idealize.ShloMosaic.Lib.Pipeline.Value
public import Idealize.ShloMosaic.Lib.ValueIdx
public import Idealize.ShloMosaic.Lib.Pointwise.Index
public import Idealize.ShloMosaic.PureOps.Ideal.Laws

@[expose] public section

noncomputable section

namespace Cert.Lookup

open Idealize.ShloMosaic Cert.KernelIdeal Cert.KernelIdeal.Gen
open Idealize.ShloMosaic.ValueIdx (contrEquiv1 truncf_apply sitofp_apply extui_apply)
open scoped BigOperators

/-- A lane number below 128, as a 32-bit word, equals a word exactly when the word's value is the lane number. -/
theorem eq_lane_iff (v : BitVec 32) (k : Fin 128) : v = BitVec.ofNat 32 k.val ↔ v.toNat = k.val := by
  have hk : k.val % 2 ^ 32 = k.val := Nat.mod_eq_of_lt (by have := k.isLt; omega)
  rw [← BitVec.toNat_inj, BitVec.toNat_ofNat, hk]

/-- The outcome of an equality test, widened to 32 bits and converted to a float, is one where the two words agree and
    zero elsewhere. -/
theorem indicator (v w : BitVec 32) :
    (FloatOps.sitofp (F := Ideal) .f32 ((IntOp.cmpi .eq v w).setWidth 32)) = if v = w then (1 : EReal) else 0 := by
  show ((((IntOp.cmpi .eq v w).setWidth 32).toInt : ℝ) : EReal) = _
  by_cases h : v = w
  · simp [IntOp.cmpi, h]
  · simp [IntOp.cmpi, beq_eq_false_iff_ne.mpr h, h]

/-- A sum of 128 products whose left factors are one in lane `n` and zero elsewhere is the right factor of lane `n`. -/
theorem sum_indicator (n : Fin 128) (f : Fin 128 → EReal) :
    (∑ k : Fin 128, (if n.val = k.val then (1 : EReal) else 0) * f k) = f n := by
  rw [Finset.sum_eq_single n]
  · rw [if_pos rfl, one_mul]
  · intro k _ hk
    rw [if_neg fun h => hk (Fin.ext h.symm), zero_mul]
  · exact fun h => absurd (Finset.mem_univ n) h

/-- Row `r` of a grid point's result is the row of its table block that the token id of row `r` names, when that id is
    below 128. -/
theorem block_apply (ids : Vec Ideal S1024x1 .i32) (blk : Vec Ideal S128x2048 .f32) (r : Fin 1024) (j : Fin 2048)
    (h : (ids (ix2 r (0 : Fin 1)) : BitVec 32).toNat < 128) :
    k0_pay1 ids blk (ix2 r j) = blk (ix2 (⟨(ids (ix2 r (0 : Fin 1)) : BitVec 32).toNat, h⟩ : Fin 128) j) := by
  unfold k0_pay1
  dsimp only
  rw [truncf_apply, matmul, Ideal.matmul_constant_zero_apply,
    ← Equiv.sum_comp (contrEquiv1 dot_S1024x128_S128x2048_S1024x2048_1_0_0_1_n_n 128 rfl rfl).symm]
  refine Eq.trans ?_ (sum_indicator ⟨_, h⟩ fun k => blk (ix2 k j))
  refine Finset.sum_congr rfl fun k _ => ?_
  refine congrArg₂ (· * ·) ?_ ?_
  · rw [truncf_apply, sitofp_apply, extui_apply]
    refine (indicator _ _).trans ?_
    rw [shapeCast_self, broadcastTo_apply _ _ _ (ix2 r (0 : Fin 1)) (by
      intro a; match a with
      | ⟨0, _⟩ => rfl
      | ⟨1, _⟩ => rfl), iota_single_apply]
    exact if_congr (eq_lane_iff _ k) rfl rfl
  · rw [truncf_apply]
    exact congrArg blk (Shape.idx_ext₂ rfl rfl)

end Cert.Lookup

end
-- ==== Proof.Lookup.lean ====
/-
  The function both programs compute: row `prefix[b, p]` of the table, at every place `(b, p)`.

  Stated in two layouts, the kernel's [1024, 49152] and the result's [8, 128, 49152], with the equation between them.
-/
module

public import Idealize.ShloMosaic.Lib.Pipeline.Value
public import Idealize.ShloMosaic.Lib.Pointwise.Index

@[expose] public section

noncomputable section

namespace Cert.Lookup

open Idealize.ShloMosaic

/-- The token ids as a [8, 128] array and as the kernel's [1024, 1] column. -/
abbrev Ids : Shape := ⟨2, ![8, 128]⟩
@[inherit_doc Ids] abbrev IdColumn : Shape := ⟨2, ![1024, 1]⟩
/-- The table, one row of 49152 values per token. -/
abbrev Table : Shape := ⟨2, ![128, 49152]⟩
/-- The looked-up rows, as a [1024, 49152] matrix and as the [8, 128, 49152] result. -/
abbrev RowMatrix : Shape := ⟨2, ![1024, 49152]⟩
@[inherit_doc RowMatrix] abbrev Result : Shape := ⟨3, ![8, 128, 49152]⟩

/-- The table row a token id names. An id from 128 on is read as 127, so that the function is total; no theorem about the
    programs uses it there. -/
def row (v : BitVec 32) : Fin 128 := ⟨min v.toNat 127, by omega⟩

/-- Below 128 the named row is the id itself. -/
theorem row_of_lt (v : BitVec 32) (h : v.toNat < 128) : row v = ⟨v.toNat, h⟩ :=
  Fin.ext (by show min v.toNat 127 = v.toNat; omega)

variable {α : Type}

/-- The lookup as a matrix: row `r` is the table row that id `r` of the column names. -/
def matrix (ids : IVec IdColumn 32) (table : Table.Idx → α) : RowMatrix.Idx → α :=
  fun i => table (ix2 (row (ids (ix2 (i 0) (0 : Fin 1)))) (i 1))

/-- The lookup as the result array: at `(b, p)` stands the table row that id `(b, p)` names. -/
def result (ids : IVec Ids 32) (table : Table.Idx → α) : Result.Idx → α :=
  fun i => table (ix2 (row (ids (ix2 (i 0) (i 1)))) (i 2))

/-- The ids flattened to a column: row `128 b + p` holds id `(b, p)`. -/
theorem column_apply (ids : IVec Ids 32) (h : Ids.ShapeCasts IdColumn) (b : Fin 8) (p : Fin 128) (r : Fin 1024)
    (hr : r.val = b.val * 128 + p.val) : shapeCast IdColumn ids h (ix2 r (0 : Fin 1)) = ids (ix2 b p) := by
  refine shapeCast_apply ids h _ (ix2 b p) ?_
  rw [Shape.rowMajor_val_two, Shape.rowMajor_val_two]
  show b.val * 128 + p.val = r.val * 1 + 0
  omega

/-- The matrix of looked-up rows of the flattened ids, reshaped to [8, 128, 49152], is the lookup of the ids themselves. -/
theorem reshape_matrix (ids : IVec Ids 32) (table : Table.Idx → α) (h : Ids.ShapeCasts IdColumn)
    (h' : RowMatrix.ShapeCasts Result) :
    shapeCast Result (matrix (shapeCast IdColumn ids h) table) h' = result ids table := by
  funext i
  obtain ⟨b, p, d, rfl⟩ : ∃ (b : Fin 8) (p : Fin 128) (d : Fin 49152), i = ix3 b p d := ⟨i 0, i 1, i 2, eq_ix3 i⟩
  have hr : b.val * 128 + p.val < 1024 := by have := b.isLt; have := p.isLt; omega
  rw [shapeCast_apply _ h' _ (ix2 (⟨b.val * 128 + p.val, hr⟩ : Fin 1024) d) (by
    rw [Shape.rowMajor_val_two, Shape.rowMajor_val_three]; rfl)]
  show table (ix2 (row (shapeCast IdColumn ids h (ix2 ⟨b.val * 128 + p.val, hr⟩ (0 : Fin 1)))) d) = _
  rw [column_apply ids h b p _ rfl]
  rfl

end Cert.Lookup

end
-- ==== Proof.Array.lean ====
/-
  What the kernel's arrays hold at the end, over the extended reals.

  The grid has 24 points. Point `t` reads all 1024 token ids and columns `2048 t` to `2048 t + 2047` of the table, and
  writes the same columns of the [1024, 49152] result. So the points' results are the column blocks of one matrix, the
  lookup, and the reshape after the kernel turns that matrix into the [8, 128, 49152] result.
-/
module

public import proofs.«01_k».proof.Proof.Block
public import proofs.«01_k».proof.Proof.Lookup
public import proofs.«01_k».proof.Proof.Gen.KernelIdeal.Frame
public import Idealize.ShloMosaic.Lib.Pipeline.ValueKit
public import Idealize.ShloMosaic.Lib.Claim

@[expose] public section

noncomputable section

namespace Cert.Lookup

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The launch contents of the token ids on device `c`. -/
abbrev idsAt (c : Dev nD) : IVec Ids 32 := m ((c : Thread nD τ).loc main_arg0)
/-- The launch contents of the table on device `c`. -/
abbrev tableAt (c : Dev nD) : Table.Idx → EReal := m ((c : Thread nD τ).loc main_arg1)

/-- The kernel's first operand is the token ids flattened to a column. -/
theorem entry_ids (c : Dev nD) :
    V m c main_v0 = shapeCast S1024x1 (idsAt m c) shapeCasts_S8x128_S1024x1 := by
  entry_read
  rfl

/-- The block positions of the three windows at point `t`: the ids' block never moves, the table's and the result's are
    column block `t`. -/
theorem blocks_at : ∀ t : Fin grid0.N, win0_0.index t = ![0, 0] ∧ win0_1.index t = ![0, t.val] ∧ win0_2.index t = ![0, t.val] := by
  decide +kernel

/-- The ids' block at any point is the whole column. -/
theorem ids_block (c : Dev nD) (t : Fin cfg0.N) (r : Fin 1024) :
    iblk m c 0 t (ix2 r (0 : Fin 1)) = shapeCast S1024x1 (idsAt m c) shapeCasts_S8x128_S1024x1 (ix2 r (0 : Fin 1)) := by
  rw [← entry_ids]
  have e := (blocks_at t).1
  blk_ext [iblk, e]

/-- The table's block at point `t` is column block `t` of the table. -/
theorem table_block (c : Dev nD) (t : Fin cfg0.N) (k : Fin 128) (j : Fin 2048) (d : Fin 49152)
    (hd : d.val = t.val * 2048 + j.val) : iblk m c 1 t (ix2 k j) = tableAt m c (ix2 k d) := by
  have e := (blocks_at t).2.1
  have v := V_main_arg1 m c
  blk_ext [iblk, e, v]

/-- The kernel's result array ends as the matrix of looked-up rows, when every token id is below 128. -/
theorem array_eq (c : Dev nD) (h : ∀ i : Ids.Idx, (idsAt m c i).toNat < 128) :
    (dats m 0 c).arrAt 2 cfg0.N = matrix (shapeCast S1024x1 (idsAt m c) shapeCasts_S8x128_S1024x1) (tableAt m c) := by
  refine (dats m 0 c).arrAt_eq_of_covers 2 _ (by decide +kernel) fun t hf y => ?_
  blk_simp
  rw [after0_2]
  frame_out
  obtain ⟨r, j, rfl⟩ : ∃ (r : Fin 1024) (j : Fin 2048), y = ix2 r j := ⟨y 0, y 1, eq_ix2 y⟩
  have hr := ids_block m c t r
  have hlt : (iblk m c 0 t (ix2 r (0 : Fin 1)) : BitVec 32).toNat < 128 := by
    rw [hr]
    exact h _
  have hd : t.val * 2048 + j.val < 49152 := by
    have ht : t.val < 24 := t.isLt.trans_eq N_0
    have := j.isLt
    omega
  have hi : ((View.whole main_v1).slice (win0_2.rect t)).emb (ix2 r j)
      = ix2 r (⟨t.val * 2048 + j.val, hd⟩ : Fin 49152) := by
    have e := (blocks_at t).2.2
    blk_ext [e]
  rw [block_apply _ _ r j hlt, table_block m c t _ j ⟨t.val * 2048 + j.val, hd⟩ rfl, hi, ← row_of_lt _ hlt, hr]
  rfl

/-- The result array, the kernel's array reshaped, ends as the lookup, when every token id is below 128. -/
theorem result_eq (c : Dev nD) (h : ∀ i : Ids.Idx, (idsAt m c i).toNat < 128) :
    Pipeline.afterTail₀ cfgs (dats m) 0 (V0 m) [hostOps1] c main_v2 = result (idsAt m c) (tableAt m c) := by
  unfold Pipeline.afterTail₀
  rw [List.flatten_singleton, hostOps1]
  after_results
  refine Eq.trans ?_ (reshape_matrix (idsAt m c) (tableAt m c) shapeCasts_S8x128_S1024x1 shapeCasts_S1024x49152_S8x128x49152)
  refine congrArg (fun x => shapeCast S8x128x49152 x shapeCasts_S1024x49152_S8x128x49152) ?_
  refine Eq.trans ?_ (array_eq m c h)
  exact Pipeline.withArrays_arr spec0 (by decide) c (V0 m c) (fun w => (dats m 0 c).arrAt w cfg0.N) 2

/-- Every run of the kernel ends with the looked-up rows as its result and its arguments unchanged, when every token id is
    below 128. -/
theorem kernel_run (h : ∀ (c : Dev nD) (i : Ids.Idx), (idsAt m c i).toNat < 128) :
    θ_run defs (onTc (τ := τ) (main (F := Ideal))) ⟨m, fun _ => 0, ρ⟩ fun r => ∀ c : Dev nD,
      r.2.mem ((c.tc : Thread nD τ).loc main_v2) = result (idsAt m c) (tableAt m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from (Cert.KernelIdeal.Gen.run_main m ρ)
  · exact result_eq m c (h c)
  · exact W_main_arg0 m (dats m) c

end Cert.Lookup

end
-- ==== Proof.Words.lean ====
/-
  What the comparisons of the two programs and of the precondition say of a token id below 128.
-/
module

public import Idealize.ShloMosaic.PureOps

@[expose] public section

namespace Cert.Lookup

open Idealize.ShloMosaic

/-- An id below 128, read signed, is the same number. -/
theorem toInt_of_lt (v : BitVec 32) (h : v.toNat < 128) : v.toInt = (v.toNat : Int) :=
  BitVec.toInt_eq_toNat_of_lt (by omega)

/-- An id below 128 is not negative, so the reference does not wrap it. -/
theorem not_negative (v : BitVec 32) (h : v.toNat < 128) : IntOp.cmpi .slt v 0#32 = 0#1 := by
  have e : ¬ v.toInt < 0 := by rw [toInt_of_lt v h]; omega
  simp [IntOp.cmpi, BitVec.slt, e]

/-- An id below 128 passes the reference's two range tests. -/
theorem in_range (v : BitVec 32) (h : v.toNat < 128) :
    IntOp.andi (IntOp.cmpi .sge v 0#32) (IntOp.cmpi .sle v 127#32) = 1#1 := by
  have e := toInt_of_lt v h
  have h' : (v.toNat : Int) ≤ 127 := by omega
  simp [IntOp.cmpi, IntOp.andi, BitVec.sle, e, h']

/-- An id that passes the precondition's two tests is below 128. -/
theorem lt_of_tests (v : BitVec 32) (h : IntOp.andi (IntOp.cmpi .sge v 0#32) (IntOp.cmpi .slt v 128#32) = 1#1) :
    v.toNat < 128 := by
  by_cases h0 : (0 : Int) ≤ v.toInt
  · by_cases h1 : v.toInt < 128
    · rw [BitVec.toInt_eq_toNat_cond] at h0 h1
      have := v.isLt
      split at h1 <;> omega
    · simp [IntOp.cmpi, IntOp.andi, BitVec.slt, h1] at h
  · simp [IntOp.cmpi, IntOp.andi, BitVec.sle, h0] at h

end Cert.Lookup
-- ==== Proof.Reference.lean ====
/-
  What the reference computes, over the extended reals.

  `jnp.take` first adds 128 to a negative id, then marks the ids outside 0 to 127, gathers one table row per id, and puts
  a fill value in the marked places. For ids below 128 nothing is wrapped and nothing is marked, and the gathered row is
  the one the id names. The cast to bf16 changes nothing over the extended reals. So the reference is the lookup.
-/
module

public import proofs.«01_k».proof.Proof.Lookup
public import proofs.«01_k».proof.Proof.Words
public import proofs.«01_k».proof.Proof.Gen.ReferenceIdeal.Run
public import Idealize.ShloMosaic.Lib.ReduceAll
public import Idealize.ShloMosaic.Lib.ValueIdx

@[expose] public section

noncomputable section

namespace Cert.Lookup

open Idealize.ShloMosaic Idealize.ShloMosaic.TcCoe Idealize.SL.Sem
open Cert.ReferenceIdeal Cert.ReferenceIdeal.Gen
open Idealize.ShloMosaic.ValueIdx (truncf_apply select_apply select_one select_zero)

/-- The ids after the reference's treatment of negative ones, with a unit axis appended: the gather's start indices. -/
def starts (ids : IVec Ids 32) : IVec S8x128x1 32 :=
  broadcastInDim S8x128x1 ![0, 1] bcast_S8x128_S8x128x1_0_1
    (select (cmpi .slt ids (broadcastInDim S8x128 ![] bcast_S_S8x128 (constantI S_ 32 0#32)))
      (addi ids (broadcastInDim S8x128 ![] bcast_S_S8x128 (constantI S_ 32 128#32))) ids)

/-- The gathered rows: one whole table row per start index. -/
def gathered (ids : IVec Ids 32) (table : Table.Idx → EReal) : Result.Idx → EReal :=
  Host.gather gather_S128x49152_S8x128x1_S8x128x49152_2_0_n_n_0_2_149152 table (starts ids)

/-- The mark of the ids in range: 1 at the places whose start index is between 0 and 127. -/
def marks (ids : IVec Ids 32) : IVec S8x128 1 :=
  Host.reduce IntOp.andi
    (andi (cmpi .sge (starts ids) (broadcastInDim S8x128x1 ![] bcast_S_S8x128x1 (constantI S_ 32 0#32)))
      (cmpi .sle (starts ids) (broadcastInDim S8x128x1 ![0, 1, 2] bcast_S1x1x1_S8x128x1_0_1_2
        (broadcastInDim S1x1x1 ![2] bcast_S1_S1x1x1_2 (constantI S1 32 127#32)))))
    (constantI S_ 1 1#1) reducesTo_S8x128x1_S8x128_d2 h_S_

/-- Where every id is below 128, the start index of a place is its id. -/
theorem starts_apply (ids : IVec Ids 32) (h : ∀ i, (ids i).toNat < 128) (b : Fin 8) (p : Fin 128) (u : Fin 1) :
    starts ids (ix3 b p u) = ids (ix2 b p) := by
  unfold starts
  rw [broadcastInDim_apply _ _ _ _ (ix2 b p) (by
    intro a; match a with
    | ⟨0, _⟩ => rfl
    | ⟨1, _⟩ => rfl), select_apply]
  show Scalar.select (IntOp.cmpi .slt (ids (ix2 b p)) 0#32) _ _ = _
  rw [not_negative _ (h _), select_zero]

/-- Where every id is below 128, every place is marked in range. -/
theorem marks_apply (ids : IVec Ids 32) (h : ∀ i, (ids i).toNat < 128) (i : S8x128.Idx) : marks ids i = 1#1 := by
  refine Host.reduce_andi_one _ _ _ _ _ rfl fun k => ?_
  obtain ⟨b, p, u, rfl⟩ : ∃ (b : Fin 8) (p : Fin 128) (u : Fin 1), k = ix3 b p u := ⟨k 0, k 1, k 2, eq_ix3 k⟩
  show IntOp.andi (IntOp.cmpi .sge (starts ids (ix3 b p u)) 0#32) (IntOp.cmpi .sle (starts ids (ix3 b p u)) 127#32) = 1#1
  rw [starts_apply ids h]
  exact in_range _ (h _)

/-- Where every id is below 128, the gathered rows are the lookup. -/
theorem gathered_eq (ids : IVec Ids 32) (h : ∀ i, (ids i).toNat < 128) (table : Table.Idx → EReal) :
    gathered ids table = result ids table := by
  funext i
  obtain ⟨b, p, d, rfl⟩ : ∃ (b : Fin 8) (p : Fin 128) (d : Fin 49152), i = ix3 b p d := ⟨i 0, i 1, i 2, eq_ix3 i⟩
  unfold gathered Host.gather
  refine congrArg table (Shape.idx_ext₂ ?_ ?_)
  · show GatherDims.start _ _ _ 0 + GatherDims.batchCoord _ _ 0 + GatherDims.offCoord _ _ 0 = _
    rw [GatherDims.batchCoord_eq_zero _ _ _ List.not_mem_nil,
      GatherDims.offCoord_eq_zero _ _ _ (fun hk => ((GatherDims.mem_sKept _ _).mp hk).1 (List.mem_singleton.mpr rfl))]
    unfold GatherDims.start
    rw [dif_pos (show (0 : Fin 2) ∈ gather_S128x49152_S8x128x1_S8x128x49152_2_0_n_n_0_2_149152.startIndexMap from
      List.mem_singleton.mpr rfl)]
    have hs : GatherDims.siIdx gather_S128x49152_S8x128x1_S8x128x49152_2_0_n_n_0_2_149152 (ix3 b p d) ⟨0, Nat.one_pos⟩
        = ix3 b p (0 : Fin 1) := by
      funext a
      match a with
      | ⟨0, _⟩ => rfl
      | ⟨1, _⟩ => rfl
      | ⟨2, _⟩ => rfl
    refine (congrArg (fun k => min (starts ids k).toInt.toNat 127) hs).trans ?_
    show min (starts ids (ix3 b p (0 : Fin 1))).toInt.toNat 127 = min (ids (ix2 b p)).toNat 127
    rw [starts_apply ids h, toInt_of_lt _ (h _), Int.toNat_natCast]
  · show GatherDims.start _ _ _ 1 + GatherDims.batchCoord _ _ 1 + GatherDims.offCoord _ _ 1 = d.val
    rw [GatherDims.batchCoord_eq_zero _ _ _ List.not_mem_nil]
    unfold GatherDims.start
    rw [dif_neg (by decide), Nat.zero_add]
    unfold GatherDims.offCoord
    rw [dif_pos (by decide)]
    rfl

/-- The reference's result: the gathered rows where the mark is 1, the fill value elsewhere, cast to bf16. -/
def reference (ids : IVec Ids 32) (table : Table.Idx → EReal) : Result.Idx → EReal :=
  truncf (F := Ideal) .bf16
    (select (broadcastInDim S8x128x49152 ![0, 1] bcast_S8x128_S8x128x49152_0_1 (marks ids)) (gathered ids table)
      (broadcastInDim S8x128x49152 ![] bcast_S_S8x128x49152 (constant (F := Ideal) S_ .f32 0x7FC00000#32)))
    bitsLt_bf16_f32

/-- Where every id is below 128, the reference's result is the lookup. -/
theorem reference_eq (ids : IVec Ids 32) (h : ∀ i, (ids i).toNat < 128) (table : Table.Idx → EReal) :
    reference ids table = result ids table := by
  refine Eq.trans ?_ (gathered_eq ids h table)
  funext i
  show Scalar.select (marks ids _) (gathered ids table i) _ = _
  rw [marks_apply ids h, select_one]

/-- Every run of the reference ends with the lookup as its result and its arguments unchanged, when every token id is
    below 128. -/
theorem reference_run (m : (ℓ : Loc nD τ sig) → Buf (Elt Ideal) ℓ) (ρ : Dev nD → PrngReg)
    (h : ∀ (c : Dev nD) (i : Ids.Idx), ((m ((c.tc : Thread nD τ).loc main_arg0) : IVec Ids 32) i).toNat < 128) :
    θ_run defs (onTc (τ := τ) (main (F := Ideal))) ⟨m, fun _ => 0, ρ⟩ fun r => ∀ c : Dev nD,
      r.2.mem ((c.tc : Thread nD τ).loc main_v1)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ hr c => ⟨(hr c).1.trans (reference_eq _ (h c) _), (hr c).2⟩)
    (Cert.ReferenceIdeal.Value.run (F := Ideal) m ρ)

end Cert.Lookup

end
-- ==== Proof.lean ====
/-
  The proof of `Cert.Claim`: the kernel, its ideal reading and the ideal reading of the reference run to the end and leave
  their arguments and counters as they should be; the ideal reading rewrites nothing; and over the extended reals the
  kernel and the reference end with the same result whenever every token id is between 0 and 127.

  The value claim goes through the lookup (Proof/Lookup.lean): the kernel's result is the lookup (Proof/Array.lean, over
  the single grid point of Proof/Block.lean), and so is the reference's (Proof/Reference.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_in_table
public import proofs.«01_k».proof.Proof.Array
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to the end, its arguments unchanged and every counter at zero. -/
theorem frame_kernel : Cert.quiescent_Kernel := fun m ρ _ => Cert.Kernel.Gen.frame m ρ

/-- So does its ideal reading, -/
theorem frame_kernel_ideal : Cert.quiescent_KernelIdeal := fun m ρ _ => Cert.KernelIdeal.Gen.frame m ρ

/-- and the ideal reading of the reference, which has no counters. -/
theorem frame_reference_ideal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The precondition says that every token id is below 128. -/
theorem ids_lt (m : (ℓ : Loc Cert.KernelIdeal.nD Cert.KernelIdeal.τ Cert.KernelIdeal.sig) → Buf (Elt Ideal) ℓ)
    (h : Cert.Pre_KernelIdeal_in_table m) (c : Dev Cert.KernelIdeal.nD) (i : Cert.Lookup.Ids.Idx) :
    (Cert.Lookup.idsAt m c i).toNat < 128 :=
  Cert.Lookup.lt_of_tests _ (congrFun (h c) i)

/-- Over the extended reals the kernel and the reference end with the same result, the lookup, when every token id is
    between 0 and 127. -/
theorem algebraic : Cert.algebraic_KernelIdeal_ReferenceIdeal_pre_in_table := by
  intro m ρ m' ρ' hpre hagree
  refine ⟨fun c => Cert.Lookup.result (Cert.Lookup.idsAt m c) (Cert.Lookup.tableAt m c),
    Cert.Lookup.kernel_run m ρ (ids_lt m hpre), ?_⟩
  refine (θ_run Cert.ReferenceIdeal.defs _ _).mono (fun r h c => ⟨(h c).1.trans ?_, (h c).2⟩)
    (Cert.Lookup.reference_run m' ρ' fun c i => ?_)
  · rw [(hagree c).1]
    exact ids_lt m hpre c i
  · rw [(hagree c).1, (hagree c).2]

/-- All the claims together. -/
theorem claim : Cert.Claim :=
  ⟨Cert.Kernel.Gen.facts, Cert.KernelIdeal.Gen.facts, Cert.ReferenceIdeal.Gen.facts, Cert.Pre_in_table.Gen.facts,
    frame_kernel, frame_kernel_ideal, fun m ρ _ => frame_kernel_ideal m ρ trivial, frame_reference_ideal,
    fun m ρ _ => frame_reference_ideal m ρ trivial, trivial, algebraic⟩

end Cert.Proof

end
